-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_ConvolutionIdeal (m : (ℓ : Loc Cert.ConvolutionIdeal.nD Cert.ConvolutionIdeal.τ Cert.ConvolutionIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ConvolutionIdeal [hConvolutionIdeal : Cert.ConvolutionIdeal.Facts] : Prop :=
  ∀ (m : (ℓ : Loc Cert.ConvolutionIdeal.nD Cert.ConvolutionIdeal.τ Cert.ConvolutionIdeal.sig) → Buf (Elt Ideal) ℓ) (g : Dev Cert.ConvolutionIdeal.nD → PrngReg), Pre_ConvolutionIdeal m →
    θ_run (Cert.ConvolutionIdeal.defs (F := Ideal)) (onTc (τ := Cert.ConvolutionIdeal.τ) (Cert.ConvolutionIdeal.main (F := Ideal))) ⟨m, fun _ => 0, g⟩ (fun r => (∀ c : Dev Cert.ConvolutionIdeal.nD,
      r.2.mem ((c.tc : Thread Cert.ConvolutionIdeal.nD Cert.ConvolutionIdeal.τ).loc Cert.ConvolutionIdeal.main_arg0) = m ((c.tc : Thread Cert.ConvolutionIdeal.nD Cert.ConvolutionIdeal.τ).loc Cert.ConvolutionIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def algebraic_KernelIdeal_ConvolutionIdeal [hKernelIdeal : Cert.KernelIdeal.Facts] [hConvolutionIdeal : Cert.ConvolutionIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ConvolutionIdeal.nD Cert.ConvolutionIdeal.τ Cert.ConvolutionIdeal.sig) → Buf (Elt Ideal) ℓ) (g' : Dev Cert.ConvolutionIdeal.nD → PrngReg), Pre_KernelIdeal m →
    (∀ c : Dev Cert.KernelIdeal.nD,
      m' ((c.tc : Thread Cert.ConvolutionIdeal.nD Cert.ConvolutionIdeal.τ).loc Cert.ConvolutionIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ConvolutionIdeal.defs (F := Ideal)) (onTc (τ := Cert.ConvolutionIdeal.τ) (Cert.ConvolutionIdeal.main (F := Ideal))) ⟨m', fun _ => 0, g'⟩ (fun r => ∀ c : Dev Cert.ConvolutionIdeal.nD,
          r.2.mem ((c.tc : Thread Cert.ConvolutionIdeal.nD Cert.ConvolutionIdeal.τ).loc Cert.ConvolutionIdeal.main_v23) = v0 c
          ∧ r.2.mem ((c.tc : Thread Cert.ConvolutionIdeal.nD Cert.ConvolutionIdeal.τ).loc Cert.ConvolutionIdeal.main_arg0) = m' ((c.tc : Thread Cert.ConvolutionIdeal.nD Cert.ConvolutionIdeal.τ).loc Cert.ConvolutionIdeal.main_arg0))

def Claim : Prop :=
  ∃ (hKernel : Cert.Kernel.Facts) (hKernelIdeal : Cert.KernelIdeal.Facts) (hReferenceIdeal : Cert.ReferenceIdeal.Facts) (hConvolutionIdeal : Cert.ConvolutionIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_ConvolutionIdeal (hConvolutionIdeal := hConvolutionIdeal)
    ∧ preserves_Kernel_KernelIdeal
    ∧ algebraic_KernelIdeal_ReferenceIdeal_pre_finite (hKernelIdeal := hKernelIdeal) (hReferenceIdeal := hReferenceIdeal) (hPre_finite := hPre_finite)
    ∧ algebraic_KernelIdeal_ConvolutionIdeal (hKernelIdeal := hKernelIdeal) (hConvolutionIdeal := hConvolutionIdeal)
-- ==== Pre_finite.lean ====
abbrev S8x16384x256 : Shape := ⟨3, ![8, 16384, 256]⟩
abbrev S_ : Shape := ⟨0, ![]⟩

class Facts : Prop where
  bcast_S_S8x16384x256 : S_.BroadcastsInDim S8x16384x256 (![] : Fin 0 → Fin S8x16384x256.rank)

variable [Facts]

def fn {F : FTy → Type} [FloatOps F] (main_arg0 : FVec F S8x16384x256 .f32) : IVec S8x16384x256 1 :=
  let main_cst : FVec F S_ .f32 := constant S_ .f32 0xFF800000#32
  let main_v0 : FVec F S8x16384x256 .f32 := broadcastInDim S8x16384x256 ![] bcast_S_S8x16384x256 main_cst
  let main_v1 : IVec S8x16384x256 1 := cmpf .ogt main_arg0 main_v0
  let main_cst_0 : FVec F S_ .f32 := constant S_ .f32 0x7F800000#32
  let main_v2 : FVec F S8x16384x256 .f32 := broadcastInDim S8x16384x256 ![] bcast_S_S8x16384x256 main_cst_0
  let main_v3 : IVec S8x16384x256 1 := cmpf .olt main_arg0 main_v2
  let main_v4 : IVec S8x16384x256 1 := andi main_v1 main_v3
  main_v4
-- ==== Kernel.lean ====
abbrev S8x16384x256 : Shape := ⟨3, ![8, 16384, 256]⟩
abbrev S1x8192x256 : Shape := ⟨3, ![1, 8192, 256]⟩
abbrev S1x8x256 : Shape := ⟨3, ![1, 8, 256]⟩
abbrev S8216x256 : Shape := ⟨2, ![8216, 256]⟩
abbrev S24x256 : Shape := ⟨2, ![24, 256]⟩
abbrev S8x256 : Shape := ⟨2, ![8, 256]⟩
abbrev S8192x256 : Shape := ⟨2, ![8192, 256]⟩
abbrev S8184x256 : Shape := ⟨2, ![8184, 256]⟩
abbrev S16x256 : Shape := ⟨2, ![16, 256]⟩
abbrev S1x8184x256 : Shape := ⟨3, ![1, 8184, 256]⟩

abbrev nBuf : Space → Nat
  | .hbm => 2
  | .vmem => 11
  | .smem => 0
  | _ => 0

abbrev bufTy : (tb : Table) → Fin (tcTables nBuf tb) → BufTy
  | .hbm, ⟨0, _⟩ => ⟨S8x16384x256, .f32⟩
  | .hbm, ⟨1, _⟩ => ⟨S8x16384x256, .f32⟩
  | .local _ .vmem, ⟨0, _⟩ => ⟨S1x8192x256, .f32⟩
  | .local _ .vmem, ⟨1, _⟩ => ⟨S1x8192x256, .f32⟩
  | .local _ .vmem, ⟨2, _⟩ => ⟨S1x8x256, .f32⟩
  | .local _ .vmem, ⟨3, _⟩ => ⟨S1x8x256, .f32⟩
  | .local _ .vmem, ⟨4, _⟩ => ⟨S1x8x256, .f32⟩
  | .local _ .vmem, ⟨5, _⟩ => ⟨S1x8x256, .f32⟩
  | .local _ .vmem, ⟨6, _⟩ => ⟨S1x8192x256, .f32⟩
  | .local _ .vmem, ⟨7, _⟩ => ⟨S1x8192x256, .f32⟩
  | .local _ .vmem, ⟨8, _⟩ => ⟨S8216x256, .f32⟩
  | .local _ .vmem, ⟨9, _⟩ => ⟨S24x256, .f32⟩
  | .local _ .vmem, ⟨10, _⟩ => ⟨S24x256, .f32⟩
  | _, _ => ⟨S8x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1023_i32 : BitVec 32 := 1023#32
  let c0_i32 : BitVec 32 := 0#32
  let c0_i32_0 : BitVec 32 := 0#32
  ![arg0.toNat, c1023_i32.toNat, c0_i32.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let c0_i32 : BitVec 32 := 0#32
  let c0_i32_0 : BitVec 32 := 0#32
  ![arg0.toNat, c1024_i32.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8192x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x16384x256 : Shape := ⟨3, ![8, 16384, 256]⟩
abbrev S_ : Shape := ⟨0, ![]⟩
abbrev S8x16394x256 : Shape := ⟨3, ![8, 16394, 256]⟩
abbrev S8x16395x256 : Shape := ⟨3, ![8, 16395, 256]⟩

abbrev nBuf : Space → Nat
  | .hbm => 16
  | .vmem => 0
  | .smem => 0
  | _ => 0

abbrev bufTy : (tb : Table) → Fin (tcTables nBuf tb) → BufTy
  | .hbm, ⟨0, _⟩ => ⟨S8x16384x256, .f32⟩
  | .hbm, ⟨1, _⟩ => ⟨S_, .i32⟩
  | .hbm, ⟨2, _⟩ => ⟨S_, .f32⟩
  | .hbm, ⟨3, _⟩ => ⟨S8x16394x256, .f32⟩
  | .hbm, ⟨4, _⟩ => ⟨S_, .f32⟩
  | .hbm, ⟨5, _⟩ => ⟨S_, .f32⟩
  | .hbm, ⟨6, _⟩ => ⟨S8x16394x256, .f32⟩
  | .hbm, ⟨7, _⟩ => ⟨S_, .i32⟩
  | .hbm, ⟨8, _⟩ => ⟨S_, .f32⟩
  | .hbm, ⟨9, _⟩ => ⟨S8x16395x256, .f32⟩
  | .hbm, ⟨10, _⟩ => ⟨S8x16384x256, .f32⟩
  | .hbm, ⟨11, _⟩ => ⟨S8x16384x256, .f32⟩
  | .hbm, ⟨12, _⟩ => ⟨S8x16384x256, .f32⟩
  | .hbm, ⟨13, _⟩ => ⟨S_, .f32⟩
  | .hbm, ⟨14, _⟩ => ⟨S8x16384x256, .f32⟩
  | .hbm, ⟨15, _⟩ => ⟨S8x16384x256, .f32⟩
  | _, _ => ⟨S8x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_call1_call0_cst : Ref sig .tc := ⟨.hbm, 4, rfl⟩
abbrev main_call1_call0_v0 : Ref sig .tc := ⟨.hbm, 5, rfl⟩
abbrev main_v1 : Ref sig .tc := ⟨.hbm, 6, rfl⟩
abbrev main_c_0 : Ref sig .tc := ⟨.hbm, 7, rfl⟩
abbrev main_call2_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩

abbrev nD : Nat := 1
abbrev τ : Topo := Topo.v7x

variable {F : FTy → Type} [FloatOps F]
-- ==== ConvolutionIdeal.lean ====
abbrev S8x16384x256 : Shape := ⟨3, ![8, 16384, 256]⟩
abbrev S_ : Shape := ⟨0, ![]⟩
abbrev S8x16394x256 : Shape := ⟨3, ![8, 16394, 256]⟩

abbrev nBuf : Space → Nat
  | .hbm => 28
  | .vmem => 0
  | .smem => 0
  | _ => 0

abbrev bufTy : (tb : Table) → Fin (tcTables nBuf tb) → BufTy
  | .hbm, ⟨0, _⟩ => ⟨S8x16384x256, .f32⟩
  | .hbm, ⟨1, _⟩ => ⟨S_, .i32⟩
  | .hbm, ⟨2, _⟩ => ⟨S_, .f32⟩
  | .hbm, ⟨3, _⟩ => ⟨S8x16394x256, .f32⟩
  | .hbm, ⟨4, _⟩ => ⟨S8x16384x256, .f32⟩
  | .hbm, ⟨5, _⟩ => ⟨S8x16384x256, .f32⟩
  | .hbm, ⟨6, _⟩ => ⟨S8x16384x256, .f32⟩
  | .hbm, ⟨7, _⟩ => ⟨S8x16384x256, .f32⟩
  | .hbm, ⟨8, _⟩ => ⟨S8x16384x256, .f32⟩
  | .hbm, ⟨9, _⟩ => ⟨S8x16384x256, .f32⟩
  | .hbm, ⟨10, _⟩ => ⟨S8x16384x256, .f32⟩
  | .hbm, ⟨11, _⟩ => ⟨S8x16384x256, .f32⟩
  | .hbm, ⟨12, _⟩ => ⟨S8x16384x256, .f32⟩
  | .hbm, ⟨13, _⟩ => ⟨S8x16384x256, .f32⟩
  | .hbm, ⟨14, _⟩ => ⟨S8x16384x256, .f32⟩
  | .hbm, ⟨15, _⟩ => ⟨S8x16384x256, .f32⟩
  | .hbm, ⟨16, _⟩ => ⟨S8x16384x256, .f32⟩
  | .hbm, ⟨17, _⟩ => ⟨S8x16384x256, .f32⟩
  | .hbm, ⟨18, _⟩ => ⟨S8x16384x256, .f32⟩
  | .hbm, ⟨19, _⟩ => ⟨S8x16384x256, .f32⟩
  | .hbm, ⟨20, _⟩ => ⟨S8x16384x256, .f32⟩
  | .hbm, ⟨21, _⟩ => ⟨S8x16384x256, .f32⟩
  | .hbm, ⟨22, _⟩ => ⟨S8x16384x256, .f32⟩
  | .hbm, ⟨23, _⟩ => ⟨S8x16384x256, .f32⟩
  | .hbm, ⟨24, _⟩ => ⟨S8x16384x256, .f32⟩
  | .hbm, ⟨25, _⟩ => ⟨S_, .f32⟩
  | .hbm, ⟨26, _⟩ => ⟨S8x16384x256, .f32⟩
  | .hbm, ⟨27, _⟩ => ⟨S8x16384x256, .f32⟩
  | _, _ => ⟨S8x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst : Ref sig .tc := ⟨.hbm, 25, rfl⟩
abbrev main_v22 : Ref sig .tc := ⟨.hbm, 26, rfl⟩
abbrev main_v23 : Ref sig .tc := ⟨.hbm, 27, rfl⟩

abbrev nD : Nat := 1
abbrev τ : Topo := Topo.v7x

variable {F : FTy → Type} [FloatOps F]
-- ==== Proof.Average.lean ====
/- The moving average that every program of this certificate is read against: eleven neighbouring entries of a
   zero-padded series, added exactly and multiplied by the factor 1/11 as the programs write it. -/
module

public import Idealize.ShloMosaic.PureOps
public import Idealize.ShloMosaic.PureOps.Ideal
public import Idealize.ShloMosaic.Lib.ValueIdxCore

@[expose] public section

noncomputable section

open scoped BigOperators

namespace Cert.Average

open Idealize.ShloMosaic Idealize.ShloMosaic.ValueIdx

/-- The shape of the argument and of every result: eight batches of 16384 times, 256 channels. -/
abbrev Arr : Shape := ⟨3, ![8, 16384, 256]⟩

/-- The factor that the sum is multiplied by: the number that the printed word of `1.0 / 11` denotes. -/
def factor : EReal := Scalar.ofBits (F := Ideal) .f32 0x3DBA2E8C#32

/-- One series of `x` with five zeros before it and zeros after it: entry `p` is time `p - 5`. -/
def padded (x : Arr.Idx → EReal) (b : Fin 8) (c : Fin 256) (p : ℕ) : EReal :=
  if h : 5 ≤ p ∧ p < 16389 then x (ix3 b ⟨p - 5, by omega⟩ c) else 0

/-- An entry of the padded series that lies on a time of the series. -/
theorem padded_inside (x : Arr.Idx → EReal) (b : Fin 8) (c : Fin 256) {p t : ℕ} (ht : t < 16384) (h : p = t + 5) :
    padded x b c p = x (ix3 b ⟨t, ht⟩ c) := by
  subst h
  unfold padded
  rw [dif_pos ⟨by omega, by omega⟩]
  rfl

/-- An entry of the padded series that lies before or after the series. -/
theorem padded_outside (x : Arr.Idx → EReal) (b : Fin 8) (c : Fin 256) {p : ℕ} (h : p < 5 ∨ 16389 ≤ p) :
    padded x b c p = 0 := by
  unfold padded
  rw [dif_neg (by omega)]

/-- The sum of the eleven entries of the padded series centred at time `t`. -/
def window (x : Arr.Idx → EReal) (b : Fin 8) (c : Fin 256) (t : ℕ) : EReal :=
  ∑ k ∈ Finset.range 11, padded x b c (t + k)

/-- THE MOVING AVERAGE: the window's sum times the factor, at every batch, time and channel. -/
def average (x : Arr.Idx → EReal) : Arr.Idx → EReal :=
  fun j => window x (j 0) (j 2) (j 1).val * factor

end Cert.Average

end
-- ==== Proof.Payload.lean ====
/- What each value that the kernel stores is, at one row and channel, over the extended reals. -/
module

public import proofs.«01_k».proof.Proof.Average
public import proofs.«01_k».proof.Proof.Gen.KernelIdeal.Skeleton
public import Idealize.ShloMosaic.PureOps.Ideal.Laws
public import Idealize.ShloMosaic.Lib.Pipeline.Value
public import Idealize.ShloMosaic.Lib.ValueIdxCore

@[expose] public section

set_option maxRecDepth 16384

noncomputable section

namespace Cert.Payload

open Idealize.ShloMosaic Idealize.ShloMosaic.ValueIdx Idealize.ShloMosaic.Pipeline
open Cert.KernelIdeal Cert.KernelIdeal.Gen Cert.Average

/-- The printed zero word denotes zero. -/
theorem zero_word : (Scalar.ofBits (F := Ideal) .f32 0x00000000#32 : EReal) = 0 := Ideal.ofBits_zero_f32

/-- A block of `n` rows viewed without its leading axis of length one. -/
theorem drop_row {α : Type} {n l : ℕ} (v : (⟨3, ![1, n, l]⟩ : Shape).Idx → α)
    (h : (⟨3, ![1, n, l]⟩ : Shape).ShapeCasts ⟨2, ![n, l]⟩) (a : Fin n) (c : Fin l) :
    shapeCast ⟨2, ![n, l]⟩ v h (ix2 a c) = v (ix3 0 a c) := by
  refine (shapeCast_dropUnit_apply ![n, l] v h (ix2 a c)).trans (congrArg v (funext fun d => ?_))
  match d with
  | ⟨0, _⟩ => rfl
  | ⟨1, _⟩ => rfl
  | ⟨2, _⟩ => rfl

/-- A value of `n` rows stored as a block with a leading axis of length one. -/
theorem add_row {α : Type} {n l : ℕ} (v : (⟨2, ![n, l]⟩ : Shape).Idx → α)
    (h : (⟨2, ![n, l]⟩ : Shape).ShapeCasts ⟨3, ![1, n, l]⟩) (a : Fin n) (c : Fin l) :
    shapeCast ⟨3, ![1, n, l]⟩ v h (ix3 0 a c) = v (ix2 a c) := by
  refine (shapeCast_addUnit_apply ![n, l] v h (ix3 0 a c)).trans (congrArg v (funext fun d => ?_))
  match d with
  | ⟨0, _⟩ => rfl
  | ⟨1, _⟩ => rfl

/-- The halo above the tile: the block's eight rows in the second tile of a batch, zeros in the first. -/
theorem above (i : grid0.Coords) (v : Vec Ideal S1x8x256 .f32) (a : Fin 8) (c : Fin 256) :
    k0_pay2 (F := Ideal) i v (ix2 a c) = if (i 1).val = 0 then (0 : EReal) else v (ix3 0 a c) := by
  have hi : (i 1).val = 0 ∨ (i 1).val = 1 := by have : (i 1).val < 2 := (i 1).isLt; omega
  unfold k0_pay2
  dsimp only
  rw [shapeCast_self]
  rcases hi with h | h
  · rw [h, if_pos rfl]; exact zero_word
  · rw [h, if_neg (by decide)]; exact drop_row v _ a c

/-- The halo below the tile: the block's eight rows in the first tile of a batch, zeros in the second. -/
theorem below (i : grid0.Coords) (v : Vec Ideal S1x8x256 .f32) (a : Fin 8) (c : Fin 256) :
    k0_pay6 (F := Ideal) (k0_pay5 i v) (ix2 a c) = if (i 1).val = 0 then v (ix3 0 a c) else (0 : EReal) := by
  have hi : (i 1).val = 0 ∨ (i 1).val = 1 := by have : (i 1).val < 2 := (i 1).isLt; omega
  unfold k0_pay6 k0_pay5
  dsimp only
  rw [shapeCast_self]
  rcases hi with h | h
  · rw [h, if_pos rfl]; exact drop_row v _ a c
  · rw [h, if_neg (by decide)]; exact zero_word

/-- The tile's first eight rows are kept as they are. -/
theorem first_rows (v : Vec Ideal S8x256 .f32) : k0_pay3 (F := Ideal) v = v := shapeCast_self _ _

/-- The tile's last eight rows are kept as they are. -/
theorem last_rows (v : Vec Ideal S8x256 .f32) : k0_pay4 (F := Ideal) v = v := shapeCast_self _ _

/-- The rows after the lower halo are zero. -/
theorem zeros (j : S8x256.Idx) : k0_pay7 (F := Ideal) j = (0 : EReal) := by
  unfold k0_pay7
  rw [shapeCast_self]
  exact zero_word

/-- A pair sum of the first eight rows. -/
theorem pair_first (v w : Vec Ideal S8x256 .f32) (j : S8x256.Idx) :
    k0_pay8 (F := Ideal) v w j = (v j + w j : EReal) :=  by
  unfold k0_pay8
  rw [shapeCast_self]
  rfl

/-- A pair sum of the rows whose two members both lie in the tile. -/
theorem pair_middle (v w : Vec Ideal S8184x256 .f32) (j : S8184x256.Idx) :
    k0_pay9 (F := Ideal) v w j = (v j + w j : EReal) :=  by
  unfold k0_pay9
  rw [shapeCast_self]
  rfl

/-- A pair sum of the last sixteen rows. -/
theorem pair_last (v w : Vec Ideal S16x256 .f32) (j : S16x256.Idx) :
    k0_pay10 (F := Ideal) v w j = (v j + w j : EReal) :=  by
  unfold k0_pay10
  rw [shapeCast_self]
  rfl

/-- A result row: five pair sums and the eleventh entry, added and scaled. -/
theorem result (p q r s t u : Vec Ideal S8184x256 .f32) (a : Fin 8184) (c : Fin 256) :
    k0_pay11 (F := Ideal) p q r s t u (ix3 0 a c)
      = ((p (ix2 a c) + q (ix2 a c) + (r (ix2 a c) + s (ix2 a c)) + (t (ix2 a c) + u (ix2 a c))) * factor : EReal) := by
  unfold k0_pay11
  exact add_row _ _ a c

/-- One of the last eight result rows. -/
theorem result_last (p q r s t u : Vec Ideal S8x256 .f32) (a : Fin 8) (c : Fin 256) :
    k0_pay1 (F := Ideal) (k0_pay12 p q r s t u) (ix3 0 a c)
      = ((p (ix2 a c) + q (ix2 a c) + (r (ix2 a c) + s (ix2 a c)) + (t (ix2 a c) + u (ix2 a c))) * factor : EReal) := by
  unfold k0_pay1 k0_pay12
  exact add_row _ _ a c

end Cert.Payload

end
-- ==== Proof.Rows.lean ====
/- Rows of a two-axis buffer that is written a band of rows at a time: which band a row is read from. -/
module

public import Idealize.ShloMosaic.Lib.Pipeline.Value
public import Idealize.ShloMosaic.Lib.Pipeline.FrameBody
public import Idealize.ShloMosaic.Lib.ValueIdxCore

@[expose] public section

noncomputable section

namespace Cert.Rows

open Idealize.ShloMosaic Idealize.ShloMosaic.ValueIdx

variable {Val : EltTy → Type} {e : EltTy} {m n l : ℕ}

/-- Row `a` of the band that starts at row `o` is row `o + a` of the buffer. -/
theorem band_idx {o : ℕ} (inb : ∀ d, (![o, 0] : Fin 2 → ℕ) d + (![n, l] : Fin 2 → ℕ) d ≤ (⟨2, ![m, l]⟩ : Shape).size d)
    (a : Fin n) (c : Fin l) {p : ℕ} (hp : p < m) (h : p = o + a.val) :
    (Rect.unit (s := ⟨2, ![m, l]⟩) ![o, 0] ![n, l] inb).idx (ix2 a c) = ix2 (⟨p, hp⟩ : Fin m) c := by
  subst h
  funext d
  match d with
  | ⟨0, _⟩ => exact Fin.ext (show o + 1 * a.val = o + a.val by omega)
  | ⟨1, _⟩ => exact Fin.ext (show 0 + 1 * c.val = c.val by omega)

/-- A row inside the band written last reads that band. -/
theorem canon_hit [∀ e, Nonempty (Val e)] {o : ℕ}
    (inb : ∀ d, (![o, 0] : Fin 2 → ℕ) d + (![n, l] : Fin 2 → ℕ) d ≤ (⟨2, ![m, l]⟩ : Shape).size d)
    (w : (⟨2, ![n, l]⟩ : Shape).Idx → Val e) (L : List (View.Piece Val (⟨2, ![m, l]⟩ : Shape) e))
    {p : ℕ} (hp : p < m) (c : Fin l) (a : ℕ) (ha : a < n) (h : p = o + a) :
    View.canon ((⟨Rect.unit (s := ⟨2, ![m, l]⟩) ![o, 0] ![n, l] inb, w⟩ : View.Piece Val (⟨2, ![m, l]⟩ : Shape) e) :: L)
      (ix2 ⟨p, hp⟩ c) = w (ix2 ⟨a, ha⟩ c) := by
  rw [← band_idx inb ⟨a, ha⟩ c hp h]
  exact View.canon_cons_emb (Rect.unit (s := ⟨2, ![m, l]⟩) ![o, 0] ![n, l] inb) w L (ix2 ⟨a, ha⟩ c)

/-- A row outside the band written last reads the bands written before it. -/
theorem canon_miss [∀ e, Nonempty (Val e)] {o : ℕ}
    (inb : ∀ d, (![o, 0] : Fin 2 → ℕ) d + (![n, l] : Fin 2 → ℕ) d ≤ (⟨2, ![m, l]⟩ : Shape).size d)
    (w : (⟨2, ![n, l]⟩ : Shape).Idx → Val e) (L : List (View.Piece Val (⟨2, ![m, l]⟩ : Shape) e))
    {p : ℕ} (hp : p < m) (c : Fin l) (h : p < o ∨ o + n ≤ p) :
    View.canon ((⟨Rect.unit (s := ⟨2, ![m, l]⟩) ![o, 0] ![n, l] inb, w⟩ : View.Piece Val (⟨2, ![m, l]⟩ : Shape) e) :: L)
      (ix2 ⟨p, hp⟩ c) = View.canon L (ix2 ⟨p, hp⟩ c) := by
  refine View.canon_cons_of_not_mem _ L fun hm => ?_
  have h0 : o ≤ p ∧ p < o + n := (Rect.mem_set_unit (inb := inb)).mp hm 0
  omega

/-- The same for a block with a leading axis of length one: a row inside the band written last reads that band; -/
theorem canon_hit3 [∀ e, Nonempty (Val e)] {o : ℕ}
    (inb : ∀ d, (![0, o, 0] : Fin 3 → ℕ) d + (![1, n, l] : Fin 3 → ℕ) d ≤ (⟨3, ![1, m, l]⟩ : Shape).size d)
    (w : (⟨3, ![1, n, l]⟩ : Shape).Idx → Val e) (L : List (View.Piece Val (⟨3, ![1, m, l]⟩ : Shape) e))
    {p : ℕ} (hp : p < m) (c : Fin l) (a : ℕ) (ha : a < n) (h : p = o + a) :
    View.canon ((⟨Rect.unit (s := ⟨3, ![1, m, l]⟩) ![0, o, 0] ![1, n, l] inb, w⟩ : View.Piece Val (⟨3, ![1, m, l]⟩ : Shape) e) :: L)
      (ix3 0 ⟨p, hp⟩ c) = w (ix3 0 ⟨a, ha⟩ c) := by
  subst h
  have e1 : (ix3 0 ⟨o + a, hp⟩ c : (⟨3, ![1, m, l]⟩ : Shape).Idx)
      = (Rect.unit (s := ⟨3, ![1, m, l]⟩) ![0, o, 0] ![1, n, l] inb).emb (ix3 0 ⟨a, ha⟩ c) := by
    funext d
    match d with
    | ⟨0, _⟩ => rfl
    | ⟨1, _⟩ => exact Fin.ext (show o + a = o + 1 * a by omega)
    | ⟨2, _⟩ => exact Fin.ext (show c.val = 0 + 1 * c.val by omega)
  rw [e1]
  exact View.canon_cons_emb (Rect.unit (s := ⟨3, ![1, m, l]⟩) ![0, o, 0] ![1, n, l] inb) w L (ix3 0 ⟨a, ha⟩ c)

/-- a row outside it reads the bands written before. -/
theorem canon_miss3 [∀ e, Nonempty (Val e)] {o : ℕ}
    (inb : ∀ d, (![0, o, 0] : Fin 3 → ℕ) d + (![1, n, l] : Fin 3 → ℕ) d ≤ (⟨3, ![1, m, l]⟩ : Shape).size d)
    (w : (⟨3, ![1, n, l]⟩ : Shape).Idx → Val e) (L : List (View.Piece Val (⟨3, ![1, m, l]⟩ : Shape) e))
    {p : ℕ} (hp : p < m) (c : Fin l) (h : p < o ∨ o + n ≤ p) :
    View.canon ((⟨Rect.unit (s := ⟨3, ![1, m, l]⟩) ![0, o, 0] ![1, n, l] inb, w⟩ : View.Piece Val (⟨3, ![1, m, l]⟩ : Shape) e) :: L)
      (ix3 0 ⟨p, hp⟩ c) = View.canon L (ix3 0 ⟨p, hp⟩ c) := by
  refine View.canon_cons_of_not_mem _ L fun hm => ?_
  have h0 : o ≤ p ∧ p < o + n := (Rect.mem_set_unit (inb := inb)).mp hm 1
  omega

end Cert.Rows

end
-- ==== Proof.Block.lean ====
/- One grid point of the kernel: what its body leaves in the result's block, row by row, as the sum of the eleven
   neighbouring rows of the tile extended by its two halos. -/
module

public import proofs.«01_k».proof.Proof.Payload
public import proofs.«01_k».proof.Proof.Rows
public import proofs.«01_k».proof.Proof.Gen.KernelIdeal.Frame
public import Idealize.ShloMosaic.Lib.VecWindow

@[expose] public section

set_option maxRecDepth 16384

noncomputable section

open scoped BigOperators

namespace Cert.Block

open Idealize.ShloMosaic Idealize.ShloMosaic.TcCoe Idealize.ShloMosaic.Tactic Idealize.ShloMosaic.ValueIdx
open Cert.KernelIdeal Cert.KernelIdeal.Gen Cert.Average Cert.Rows

/-! ## The extended tile -/

/-- The tile extended by its halos: eight rows from the block before the tile (zeros in the first tile of a batch), the
    tile's 8192 rows, eight rows from the block after it (zeros in the second tile), and zeros. -/
def extended (i : grid0.Coords) (x0 : Vec Ideal S1x8192x256 .f32) (x1 x2 : Vec Ideal S1x8x256 .f32) (c : Fin 256)
    (q : ℕ) : EReal :=
  if h : q < 8 then (if (i 1).val = 0 then 0 else x1 (ix3 0 ⟨q, h⟩ c))
  else if h : q < 8200 then x0 (ix3 0 ⟨q - 8, by omega⟩ c)
  else if h : q < 8208 then (if (i 1).val = 0 then x2 (ix3 0 ⟨q - 8200, by omega⟩ c) else 0)
  else 0

section

variable (i : grid0.Coords) (x0 : Vec Ideal S1x8192x256 .f32) (x1 x2 : Vec Ideal S1x8x256 .f32) (c : Fin 256)

theorem extended_above {q a : ℕ} (ha : a < 8) (h : q = a) :
    extended i x0 x1 x2 c q = if (i 1).val = 0 then 0 else x1 (ix3 0 ⟨a, ha⟩ c) := by
  subst h; unfold extended; rw [dif_pos ha]

theorem extended_tile {q a : ℕ} (ha : a < 8192) (h : q = 8 + a) : extended i x0 x1 x2 c q = x0 (ix3 0 ⟨a, ha⟩ c) := by
  subst h; unfold extended
  rw [dif_neg (by omega), dif_pos (by omega)]
  exact congrArg (fun n => x0 (ix3 0 n c)) (Fin.ext (by simp))

theorem extended_below {q a : ℕ} (ha : a < 8) (h : q = 8200 + a) :
    extended i x0 x1 x2 c q = if (i 1).val = 0 then x2 (ix3 0 ⟨a, ha⟩ c) else 0 := by
  subst h; unfold extended
  rw [dif_neg (by omega), dif_neg (by omega), dif_pos (by omega)]
  exact congrArg (fun n => if (i 1).val = 0 then x2 (ix3 0 n c) else (0 : EReal)) (Fin.ext (by simp))

theorem extended_after {q : ℕ} (h : 8208 ≤ q) : extended i x0 x1 x2 c q = 0 := by
  unfold extended; rw [dif_neg (by omega), dif_neg (by omega), dif_neg (by omega)]

end

/-! ## The bands that the body stores -/

/-- The tile without its leading axis of length one. -/
def rows (x0 : Vec Ideal S1x8192x256 .f32) : Vec Ideal S8192x256 .f32 := fun j => x0 (ix3 0 (j 0) (j 1))

/-- The bands of the buffer that holds the upper halo and the tile's first eight rows. -/
def headBands (i : grid0.Coords) (x0 : Vec Ideal S1x8192x256 .f32) (x1 : Vec Ideal S1x8x256 .f32) :
    List (View.Piece (Elt Ideal) S24x256 .f32) :=
  [⟨Rect.unit (s := S24x256) ![8, 0] S8x256.size inb_S24x256_S8x256_8_0,
      k0_pay3 (View.ld (rows x0) (Rect.unit (s := S8192x256) ![0, 0] S8x256.size inb_S8192x256_S8x256_0_0))⟩,
    ⟨Rect.unit (s := S24x256) ![0, 0] S8x256.size inb_S24x256_S8x256_0_0,
      k0_pay2 i (View.ld x1 (Rect.unit (s := S1x8x256) ![0, 0, 0] S1x8x256.size inb_S1x8x256_S1x8x256_0_0_0))⟩]

/-- The bands of the buffer that holds the tile's last eight rows, the lower halo and eight zero rows. -/
def tailBands (i : grid0.Coords) (x0 : Vec Ideal S1x8192x256 .f32) (x2 : Vec Ideal S1x8x256 .f32) :
    List (View.Piece (Elt Ideal) S24x256 .f32) :=
  [⟨Rect.unit (s := S24x256) ![16, 0] S8x256.size inb_S24x256_S8x256_16_0, k0_pay7 (F := Ideal)⟩,
    ⟨Rect.unit (s := S24x256) ![8, 0] S8x256.size inb_S24x256_S8x256_8_0,
      k0_pay6 (k0_pay5 i (View.ld x2 (Rect.unit (s := S1x8x256) ![0, 0, 0] S1x8x256.size inb_S1x8x256_S1x8x256_0_0_0)))⟩,
    ⟨Rect.unit (s := S24x256) ![0, 0] S8x256.size inb_S24x256_S8x256_0_0,
      k0_pay4 (View.ld (rows x0) (Rect.unit (s := S8192x256) ![8184, 0] S8x256.size inb_S8192x256_S8x256_8184_0))⟩]

/-- The bands of the buffer of pair sums. -/
def pairBands (i : grid0.Coords) (x0 : Vec Ideal S1x8192x256 .f32) (x1 x2 : Vec Ideal S1x8x256 .f32) :
    List (View.Piece (Elt Ideal) S8216x256 .f32) :=
  [⟨Rect.unit (s := S8216x256) ![8192, 0] S16x256.size inb_S8216x256_S16x256_8192_0,
      k0_pay10 (fun j => View.canon (tailBands i x0 x2) ((Rect.unit (s := S24x256) ![0, 0] S16x256.size inb_S24x256_S16x256_0_0).idx j))
        (fun j => View.canon (tailBands i x0 x2) ((Rect.unit (s := S24x256) ![1, 0] S16x256.size inb_S24x256_S16x256_1_0).idx j))⟩,
    ⟨Rect.unit (s := S8216x256) ![8, 0] S8184x256.size inb_S8216x256_S8184x256_8_0,
      k0_pay9 (View.ld (rows x0) (Rect.unit (s := S8192x256) ![0, 0] S8184x256.size inb_S8192x256_S8184x256_0_0))
        (View.ld (rows x0) (Rect.unit (s := S8192x256) ![1, 0] S8184x256.size inb_S8192x256_S8184x256_1_0))⟩,
    ⟨Rect.unit (s := S8216x256) ![0, 0] S8x256.size inb_S8216x256_S8x256_0_0,
      k0_pay8 (fun j => View.canon (headBands i x0 x1) ((Rect.unit (s := S24x256) ![0, 0] S8x256.size inb_S24x256_S8x256_0_0).idx j))
        (fun j => View.canon (headBands i x0 x1) ((Rect.unit (s := S24x256) ![1, 0] S8x256.size inb_S24x256_S8x256_1_0).idx j))⟩]

/-- The two bands of the result's block. -/
def resultBands (i : grid0.Coords) (x0 : Vec Ideal S1x8192x256 .f32) (x1 x2 : Vec Ideal S1x8x256 .f32) :
    List (View.Piece (Elt Ideal) S1x8192x256 .f32) :=
  [⟨Rect.unit (s := S1x8192x256) ![0, 8184, 0] S1x8x256.size inb_S1x8192x256_S1x8x256_0_8184_0,
      k0_pay1 (k0_pay12
        (fun j => View.canon (pairBands i x0 x1 x2) ((Rect.unit (s := S8216x256) ![8187, 0] S8x256.size inb_S8216x256_S8x256_8187_0).idx j))
        (fun j => View.canon (pairBands i x0 x1 x2) ((Rect.unit (s := S8216x256) ![8189, 0] S8x256.size inb_S8216x256_S8x256_8189_0).idx j))
        (fun j => View.canon (pairBands i x0 x1 x2) ((Rect.unit (s := S8216x256) ![8191, 0] S8x256.size inb_S8216x256_S8x256_8191_0).idx j))
        (fun j => View.canon (pairBands i x0 x1 x2) ((Rect.unit (s := S8216x256) ![8193, 0] S8x256.size inb_S8216x256_S8x256_8193_0).idx j))
        (fun j => View.canon (pairBands i x0 x1 x2) ((Rect.unit (s := S8216x256) ![8195, 0] S8x256.size inb_S8216x256_S8x256_8195_0).idx j))
        (fun j => View.canon (tailBands i x0 x2) ((Rect.unit (s := S24x256) ![5, 0] S8x256.size inb_S24x256_S8x256_5_0).idx j)))⟩,
    ⟨Rect.unit (s := S1x8192x256) ![0, 0, 0] S1x8184x256.size inb_S1x8192x256_S1x8184x256_0_0_0,
      k0_pay11
        (fun j => View.canon (pairBands i x0 x1 x2) ((Rect.unit (s := S8216x256) ![3, 0] S8184x256.size inb_S8216x256_S8184x256_3_0).idx j))
        (fun j => View.canon (pairBands i x0 x1 x2) ((Rect.unit (s := S8216x256) ![5, 0] S8184x256.size inb_S8216x256_S8184x256_5_0).idx j))
        (fun j => View.canon (pairBands i x0 x1 x2) ((Rect.unit (s := S8216x256) ![7, 0] S8184x256.size inb_S8216x256_S8184x256_7_0).idx j))
        (fun j => View.canon (pairBands i x0 x1 x2) ((Rect.unit (s := S8216x256) ![9, 0] S8184x256.size inb_S8216x256_S8184x256_9_0).idx j))
        (fun j => View.canon (pairBands i x0 x1 x2) ((Rect.unit (s := S8216x256) ![11, 0] S8184x256.size inb_S8216x256_S8184x256_11_0).idx j))
        (View.ld (rows x0) (Rect.unit (s := S8192x256) ![5, 0] S8184x256.size inb_S8192x256_S8184x256_5_0))⟩]

/-- The tile read through the body's two-axis view of its buffer is `rows`. -/
theorem read_rows (arg2 : Memref sig .tc .vmem S1x8192x256 .f32) (harg2 : arg2.IsWhole) (x0 : Vec Ideal S1x8192x256 .f32) :
    ((arg2.slice (Rect.unit (s := S1x8192x256) ![0, 0, 0] S1x8192x256.size inb_S1x8192x256_S1x8192x256_0_0_0) (fun _ => rfl)).squeeze
      S8192x256 squeezes_S1x8192x256_S8192x256).view.read (Elt Ideal) (harg2.unread x0) = rows x0 := by
  funext j
  rw [Memref.read_squeeze_full arg2 inb_S1x8192x256_S1x8192x256_0_0_0 squeezes_S1x8192x256_S8192x256, harg2.read_unread]
  rw [eq_ix2 j]
  exact Payload.drop_row x0 squeezes_S1x8192x256_S8192x256.numel_eq (j 0) (j 1)

set_option maxHeartbeats 1000000 in
/-- What the body leaves in the result's block: the two bands. -/
theorem out_eq (c : Dev nD) (i : grid0.Coords) (arg2 : Memref sig .tc .vmem S1x8192x256 .f32) (harg2 : arg2.IsWhole) (arg3 : Memref sig .tc .vmem S1x8x256 .f32) (harg3 : arg3.IsWhole) (arg4 : Memref sig .tc .vmem S1x8x256 .f32) (harg4 : arg4.IsWhole) (arg5 : Memref sig .tc .vmem S1x8192x256 .f32) (harg5 : arg5.IsWhole) (arg6 : Memref sig .tc .vmem S8216x256 .f32) (harg6 : arg6.IsWhole) (arg7 : Memref sig .tc .vmem S24x256 .f32) (harg7 : arg7.IsWhole) (arg8 : Memref sig .tc .vmem S24x256 .f32) (harg8 : arg8.IsWhole)
    (x0 : Vec Ideal S1x8192x256 .f32) (x1 x2 : Vec Ideal S1x8x256 .f32) :
    out0_A_3 c i arg2 harg2 arg3 harg3 arg4 harg4 arg5 harg5 arg6 harg6 arg7 harg7 arg8 harg8 x0 x1 x2
      = View.canon (resultBands i x0 x1 x2) := by
  unfold out0_A_3
  rw [View.read_writes_junk_eq_canon]
  unfold kernelRun0_A
  dsimp only
  sl_unfold_words
  have e : ((arg2.view.slice (Rect.unit (s := S1x8192x256) ![0, 0, 0] S1x8192x256.size inb_S1x8192x256_S1x8192x256_0_0_0)).reshape
      S8192x256 squeezes_S1x8192x256_S8192x256.numel_eq).read (Elt Ideal) (harg2.unread x0) = rows x0 := read_rows arg2 harg2 x0
  simp only [View.readAt_eq_ld, harg3.read_unread, harg4.read_unread, View.readCov_eq_canon', e]
  rfl

/-! ## The bands read at a row -/

section

variable (i : grid0.Coords) (x0 : Vec Ideal S1x8192x256 .f32) (x1 x2 : Vec Ideal S1x8x256 .f32) (c : Fin 256)

/-- The tile's band of `n` rows from row `o`, at its row `a`. -/
theorem tile_band {n o : ℕ} (inb : ∀ d, (![o, 0] : Fin 2 → ℕ) d + (![n, 256] : Fin 2 → ℕ) d ≤ S8192x256.size d) (a : Fin n)
    {p : ℕ} (h : p = 8 + o + a.val) (hp : o + a.val < 8192) :
    View.ld (rows x0) (Rect.unit (s := S8192x256) ![o, 0] ![n, 256] inb) (ix2 a c) = extended i x0 x1 x2 c p := by
  show rows x0 ((Rect.unit (s := S8192x256) ![o, 0] ![n, 256] inb).idx (ix2 a c)) = _
  rw [band_idx inb a c hp rfl, extended_tile i x0 x1 x2 c hp (by omega)]
  rfl

/-- A whole block of eight rows, loaded. -/
theorem whole_band (x : Vec Ideal S1x8x256 .f32) :
    View.ld x (Rect.unit (s := S1x8x256) ![0, 0, 0] S1x8x256.size inb_S1x8x256_S1x8x256_0_0_0) = x :=
  View.ld_unit_zero (by funext a; fin_cases a <;> rfl) _ x

/-- Row `q` of the first buffer is row `q` of the extended tile. -/
theorem head_row {q : ℕ} (hq : q < 24) (h : q < 16) :
    View.canon (headBands i x0 x1) (ix2 ⟨q, hq⟩ c) = extended i x0 x1 x2 c q := by
  unfold headBands
  by_cases h8 : q < 8
  · rw [canon_miss _ _ _ hq c (by omega), canon_hit _ _ _ hq c q h8 (by omega), whole_band, Payload.above,
      extended_above i x0 x1 x2 c h8 rfl]
  · rw [canon_hit _ _ _ hq c (q - 8) (by omega) (by omega), Payload.first_rows]
    exact tile_band i x0 x1 x2 c _ _ (by show q = 8 + 0 + (q - 8); omega) (by show 0 + (q - 8) < 8192; omega)

/-- Row `q` of the second buffer is row `8192 + q` of the extended tile. -/
theorem tail_row {q : ℕ} (hq : q < 24) {p : ℕ} (h : p = 8192 + q) :
    View.canon (tailBands i x0 x2) (ix2 ⟨q, hq⟩ c) = extended i x0 x1 x2 c p := by
  unfold tailBands
  by_cases h16 : q < 16
  · rw [canon_miss _ _ _ hq c (by omega)]
    by_cases h8 : q < 8
    · rw [canon_miss _ _ _ hq c (by omega), canon_hit _ _ _ hq c q h8 (by omega), Payload.last_rows]
      exact tile_band i x0 x1 x2 c _ _ (by show p = 8 + 8184 + q; omega) (by show 8184 + q < 8192; omega)
    · rw [canon_hit _ _ _ hq c (q - 8) (by omega) (by omega), whole_band, Payload.below,
        extended_below i x0 x1 x2 c (a := q - 8) (by omega) (by omega)]
  · rw [canon_hit _ _ _ hq c (q - 16) (by omega) (by omega), Payload.zeros, extended_after i x0 x1 x2 c (by omega)]

/-- Row `p` of the third buffer is the sum of rows `p` and `p + 1` of the extended tile. -/
theorem pair_row {p : ℕ} (hp : p < 8216) (h : p < 8208) :
    View.canon (pairBands i x0 x1 x2) (ix2 ⟨p, hp⟩ c) = extended i x0 x1 x2 c p + extended i x0 x1 x2 c (p + 1) := by
  unfold pairBands
  by_cases h2 : p < 8192
  · rw [canon_miss _ _ _ hp c (by omega)]
    by_cases h1 : p < 8
    · rw [canon_miss _ _ _ hp c (by omega), canon_hit _ _ _ hp c p h1 (by omega), Payload.pair_first]
      dsimp only
      rw [band_idx _ ⟨p, h1⟩ c (p := p) (by omega) (Nat.zero_add p).symm, band_idx _ ⟨p, h1⟩ c (p := p + 1) (by omega) (by dsimp only; omega),
        head_row i x0 x1 x2 c _ (by omega), head_row i x0 x1 x2 c _ (by omega)]
    · rw [canon_hit _ _ _ hp c (p - 8) (by omega) (by omega), Payload.pair_middle]
      exact congrArg₂ (· + ·) (tile_band i x0 x1 x2 c _ _ (by show p = 8 + 0 + (p - 8); omega) (by show 0 + (p - 8) < 8192; omega))
        (tile_band i x0 x1 x2 c _ _ (by show p + 1 = 8 + 1 + (p - 8); omega) (by show 1 + (p - 8) < 8192; omega))
  · rw [canon_hit _ _ _ hp c (p - 8192) (by omega) (by omega), Payload.pair_last]
    dsimp only
    rw [band_idx _ ⟨p - 8192, _⟩ c (p := p - 8192) (by omega) (Nat.zero_add _).symm,
      band_idx _ ⟨p - 8192, _⟩ c (p := p - 8192 + 1) (by omega) (by dsimp only; omega),
      tail_row i x0 x1 x2 c _ (p := p) (by omega), tail_row i x0 x1 x2 c _ (p := p + 1) (by omega)]

/-- A band of the second buffer at its row `a`. -/
theorem tail_band {n o : ℕ} (inb : ∀ d, (![o, 0] : Fin 2 → ℕ) d + (![n, 256] : Fin 2 → ℕ) d ≤ S24x256.size d) (a : Fin n)
    {p : ℕ} (h : p = 8192 + (o + a.val)) (hp : p < 8216) :
    View.canon (tailBands i x0 x2) ((Rect.unit (s := S24x256) ![o, 0] ![n, 256] inb).idx (ix2 a c)) = extended i x0 x1 x2 c p := by
  rw [band_idx inb a c (by omega : o + a.val < 24) rfl, tail_row i x0 x1 x2 c _ h]

/-- A band of pair sums at its row `a`. -/
theorem pair_band {n o : ℕ} (inb : ∀ d, (![o, 0] : Fin 2 → ℕ) d + (![n, 256] : Fin 2 → ℕ) d ≤ S8216x256.size d) (a : Fin n)
    {p : ℕ} (h : p = o + a.val) (hp : p < 8208) :
    View.canon (pairBands i x0 x1 x2) ((Rect.unit (s := S8216x256) ![o, 0] ![n, 256] inb).idx (ix2 a c))
      = extended i x0 x1 x2 c p + extended i x0 x1 x2 c (p + 1) := by
  rw [band_idx inb a c (by omega : p < 8216) h, pair_row i x0 x1 x2 c _ hp]

/-- Five pair sums and an eleventh entry are the sum of eleven entries. -/
theorem eleven (f : ℕ → EReal) (r : ℕ) :
    f (r + 3) + f (r + 3 + 1) + (f (r + 5) + f (r + 5 + 1)) + (f (r + 7) + f (r + 7 + 1) + (f (r + 9) + f (r + 9 + 1)))
        + (f (r + 11) + f (r + 11 + 1) + f (r + 13))
      = ∑ k ∈ Finset.range 11, f (r + 3 + k) := by
  simp only [Finset.sum_range_succ, Finset.sum_range_zero, zero_add, Nat.add_zero, Nat.add_assoc, Nat.reduceAdd, add_assoc]

/-- Row `r` of the result's block: the sum of the eleven rows `r + 3 … r + 13` of the extended tile, scaled. -/
theorem result_row {r : ℕ} (hr : r < 8192) :
    View.canon (resultBands i x0 x1 x2) (ix3 0 ⟨r, hr⟩ c)
      = (∑ k ∈ Finset.range 11, extended i x0 x1 x2 c (r + 3 + k)) * factor := by
  rw [← eleven (extended i x0 x1 x2 c) r]
  unfold resultBands
  by_cases h : r < 8184
  · rw [canon_miss3 _ _ _ hr c (by omega), canon_hit3 _ _ _ hr c r h (by omega), Payload.result]
    dsimp only
    rw [pair_band i x0 x1 x2 c _ ⟨r, h⟩ (p := r + 3) (Nat.add_comm _ _) (by omega),
      pair_band i x0 x1 x2 c _ ⟨r, h⟩ (p := r + 5) (Nat.add_comm _ _) (by omega),
      pair_band i x0 x1 x2 c _ ⟨r, h⟩ (p := r + 7) (Nat.add_comm _ _) (by omega),
      pair_band i x0 x1 x2 c _ ⟨r, h⟩ (p := r + 9) (Nat.add_comm _ _) (by omega),
      pair_band i x0 x1 x2 c _ ⟨r, h⟩ (p := r + 11) (Nat.add_comm _ _) (by omega)]
    exact congrArg (fun e : EReal => (_ + (_ + e)) * factor)
      (tile_band i x0 x1 x2 c _ ⟨r, h⟩ (by show r + 13 = 8 + 5 + r; omega) (by show 5 + r < 8192; omega))
  · have ha : r - 8184 < 8 := by omega
    rw [canon_hit3 _ _ _ hr c (r - 8184) ha (by omega), Payload.result_last]
    dsimp only
    rw [pair_band i x0 x1 x2 c _ ⟨r - 8184, ha⟩ (p := r + 3) (by dsimp only; omega) (by omega),
      pair_band i x0 x1 x2 c _ ⟨r - 8184, ha⟩ (p := r + 5) (by dsimp only; omega) (by omega),
      pair_band i x0 x1 x2 c _ ⟨r - 8184, ha⟩ (p := r + 7) (by dsimp only; omega) (by omega),
      pair_band i x0 x1 x2 c _ ⟨r - 8184, ha⟩ (p := r + 9) (by dsimp only; omega) (by omega),
      pair_band i x0 x1 x2 c _ ⟨r - 8184, ha⟩ (p := r + 11) (by dsimp only; omega) (by omega),
      tail_band i x0 x1 x2 c _ ⟨r - 8184, ha⟩ (p := r + 13) (by dsimp only; omega) (by omega)]

end

end Cert.Block

end
-- ==== Proof.Array.lean ====
/- The kernel's result array: its sixteen blocks, put side by side, are the moving average of the argument. -/
module

public import proofs.«01_k».proof.Proof.Block
public import proofs.«01_k».proof.Proof.Gen.KernelIdeal.Value
public import Idealize.ShloMosaic.Lib.Pipeline.ValueKit.Point

@[expose] public section

set_option maxRecDepth 16384

noncomputable section

open scoped BigOperators

namespace Cert.Array

open Idealize.ShloMosaic hiding ix3 eq_ix3
open Idealize.ShloMosaic.TcCoe Idealize.ShloMosaic.ValueIdx Idealize.SL.Sem
open Cert.KernelIdeal Cert.KernelIdeal.Gen Cert.Average Cert.Block

/-! ## Where the blocks lie -/

/-- The batch of a grid point. -/
abbrev batch (t : Fin cfg0.N) : ℕ := (grid0.coords t 0).val

/-- The tile of a grid point: the first or the second half of the times. -/
abbrev half (t : Fin cfg0.N) : ℕ := (grid0.coords t 1).val

theorem batch_lt : ∀ t : Fin cfg0.N, batch t < 8 := (by decide +kernel : ∀ t : Fin grid0.N, (grid0.coords t 0).val < 8)

theorem half_lt : ∀ t : Fin cfg0.N, half t < 2 := (by decide +kernel : ∀ t : Fin grid0.N, (grid0.coords t 1).val < 2)

/-- The tile is block `(batch, half)` of the argument. -/
theorem index0 : ∀ t : Fin cfg0.N, win0_0.index t = ![batch t, half t, 0] :=
  (by decide +kernel : ∀ t : Fin grid0.N, win0_0.index t = ![(grid0.coords t 0).val, (grid0.coords t 1).val, 0])

/-- The upper halo is the last block of eight times of the first half. -/
theorem index1 : ∀ t : Fin cfg0.N, win0_1.index t = ![batch t, 1023, 0] :=
  (by decide +kernel : ∀ t : Fin grid0.N, win0_1.index t = ![(grid0.coords t 0).val, 1023, 0])

/-- The lower halo is the first block of eight times of the second half. -/
theorem index2 : ∀ t : Fin cfg0.N, win0_2.index t = ![batch t, 1024, 0] :=
  (by decide +kernel : ∀ t : Fin grid0.N, win0_2.index t = ![(grid0.coords t 0).val, 1024, 0])

/-- The result's block lies where the tile does. -/
theorem index3 : ∀ t : Fin cfg0.N, win0_3.index t = ![batch t, half t, 0] :=
  (by decide +kernel : ∀ t : Fin grid0.N, win0_3.index t = ![(grid0.coords t 0).val, (grid0.coords t 1).val, 0])

variable (m : (ℓ : Loc nD τ sig) → Buf (Elt Ideal) ℓ) (c : Dev nD)

/-- The argument's contents on device `c`. -/
abbrev arg : Arr.Idx → EReal := m ((c.tc : Thread nD τ).loc main_arg0)

/-! ## The blocks read as the argument -/

theorem tile_read (t : Fin cfg0.N) (a : Fin 8192) (ch : Fin 256) (hb : batch t < 8) (p : ℕ) (hp : p < 16384)
    (h : p = half t * 8192 + a.val) : iblk m c 0 t (ix3 0 a ch) = arg m c (ix3 ⟨batch t, hb⟩ ⟨p, hp⟩ ch) := by
  blk_ext! [iblk, V_main_arg0, index0 t]
  show half t * 8192 + a.val = p
  omega

theorem above_read (t : Fin cfg0.N) (a : Fin 8) (ch : Fin 256) (hb : batch t < 8) (p : ℕ) (hp : p < 16384)
    (h : p = 8184 + a.val) : iblk m c 1 t (ix3 0 a ch) = arg m c (ix3 ⟨batch t, hb⟩ ⟨p, hp⟩ ch) := by
  blk_ext! [iblk, V_main_arg0, index1 t]
  show 1023 * 8 + a.val = p
  omega

theorem below_read (t : Fin cfg0.N) (a : Fin 8) (ch : Fin 256) (hb : batch t < 8) (p : ℕ) (hp : p < 16384)
    (h : p = 8192 + a.val) : iblk m c 2 t (ix3 0 a ch) = arg m c (ix3 ⟨batch t, hb⟩ ⟨p, hp⟩ ch) := by
  blk_ext! [iblk, V_main_arg0, index2 t]
  show 1024 * 8 + a.val = p
  omega

/-- The tile extended by its halos is a stretch of the zero-padded series: row `q` is entry `half * 8192 + q - 3`. -/
theorem extended_eq (t : Fin cfg0.N) (ch : Fin 256) (hb : batch t < 8) {q p : ℕ} (h3 : 3 ≤ q) (hq : q < 8206)
    (h : p + 3 = half t * 8192 + q) :
    extended (grid0.coords t) (iblk m c 0 t) (iblk m c 1 t) (iblk m c 2 t) ch q = padded (arg m c) ⟨batch t, hb⟩ ch p := by
  have hh := half_lt t
  by_cases h8 : q < 8
  · rw [extended_above _ _ _ _ _ h8 rfl]
    by_cases h0 : half t = 0
    · rw [if_pos h0, padded_outside _ _ _ (by omega)]
    · rw [if_neg h0, above_read m c t ⟨q, h8⟩ ch hb (8184 + q) (by omega) rfl,
        padded_inside _ _ _ (t := 8184 + q) (by omega) (by omega)]
  · by_cases h82 : q < 8200
    · rw [extended_tile _ _ _ _ _ (a := q - 8) (by omega) (by omega),
        tile_read m c t ⟨q - 8, _⟩ ch hb (half t * 8192 + (q - 8)) (by omega) rfl,
        padded_inside _ _ _ (t := half t * 8192 + (q - 8)) (by omega) (by omega)]
    · rw [extended_below _ _ _ _ _ (a := q - 8200) (by omega) (by omega)]
      by_cases h0 : half t = 0
      · rw [if_pos h0, below_read m c t ⟨q - 8200, _⟩ ch hb (8192 + (q - 8200)) (by omega) rfl,
          padded_inside _ _ _ (t := 8192 + (q - 8200)) (by omega) (by omega)]
      · rw [if_neg h0, padded_outside _ _ _ (by omega)]

/-- Row `r` of the block that grid point `t` leaves is the moving average at time `half * 8192 + r`. -/
theorem block_row (t : Fin cfg0.N) (r : Fin 8192) (ch : Fin 256) (j : Arr.Idx) (h0 : (j 0).val = batch t)
    (h1 : (j 1).val = half t * 8192 + r.val) (h2 : (j 2).val = ch.val) :
    View.canon (resultBands (grid0.coords t) (iblk m c 0 t) (iblk m c 1 t) (iblk m c 2 t)) (ix3 0 r ch) = average (arg m c) j := by
  have e0 : j 0 = ⟨batch t, batch_lt t⟩ := Fin.ext h0
  have e2 : j 2 = ch := Fin.ext h2
  refine (result_row _ _ _ _ ch r.isLt).trans ?_
  unfold average window
  rw [e0, e2, h1]
  refine congrArg (· * factor) (Finset.sum_congr rfl fun k hk => ?_)
  have hk' := Finset.mem_range.mp hk
  have hr := r.isLt
  exact extended_eq m c t ch (batch_lt t) (by omega) (by omega) (by omega)

/-! ## The array -/

/-- THE RESULT ARRAY after the run is the moving average of the argument. -/
theorem array_eq : (dats m 0 c).arrAt 3 cfg0.N = average (arg m c) := by
  refine (dats m 0 c).arrAt_eq_of_covers 3 _ (by decide +kernel) fun t hf y => ?_
  rw [← Pipeline.Dat.flushed_apply, Value.flushed3_A, out_eq]
  refine (cast_eq _ _).trans ?_
  rw [Pipeline.Window.cut_apply]
  have ey : (cfg0.win 3).xinj (grid0.coords t) y = ix3 (0 : Fin 1) (y 1) (y 2) := by
    refine (eq_ix3 (n0 := 1) (n1 := 8192) (n2 := 256) _).trans ?_
    exact congrArg (fun z : Fin 1 => ix3 z (y 1) (y 2)) (Subsingleton.elim _ _)
  have hy0 : (y 0).val = 0 := Nat.lt_one_iff.mp (y 0).isLt
  rw [ey]
  refine block_row m c t (y 1) (y 2) _ ?_ ?_ ?_
  · blk_simp [index3 t]
  · blk_simp [index3 t]
  · blk_simp [index3 t]

/-- THE KERNEL'S RUN: the result buffer ends at the moving average of the argument, which is left unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v0) = average (arg m c)
      ∧ r.2.mem ((c.tc : Thread nD τ).loc main_arg0) = m ((c.tc : Thread nD τ).loc main_arg0) :=
  (θ_run defs _ _).mono (fun _ h c => ⟨(h c).1.trans (array_eq m c), (h c).2⟩) (Value.run_blocks m ρ)

end Cert.Array

end
-- ==== Proof.Padding.lean ====
/- The zero padding that both references write, read as the padded series. -/
module

public import proofs.«01_k».proof.Proof.Average
public import Idealize.ShloMosaic.Lib.KernelVsHost

@[expose] public section

set_option maxRecDepth 16384

noncomputable section

namespace Cert.Padding

open Idealize.ShloMosaic
open Idealize.ShloMosaic.ValueIdx Cert.Average

/-- Five zeros before and after the times, read at batch `b`, row `p` and channel `c`: entry `p` of the padded series. -/
theorem pad_row {u : Shape} (x : Arr.Idx → EReal) (v : u.Idx → EReal)
    (h : Arr.Pads ![0, 5, 0] ![0, 5, 0] ![0, 0, 0] ⟨3, ![8, 16394, 256]⟩) (hu : 0 < u.numel) (hv : ∀ k, v k = 0)
    (q : (⟨3, ![8, 16394, 256]⟩ : Shape).Idx) (b : Fin 8) (c : Fin 256) (p : ℕ)
    (h0 : (q 0).val = b.val) (h1 : (q 1).val = p) (h2 : (q 2).val = c.val) :
    pad ⟨3, ![8, 16394, 256]⟩ ![0, 5, 0] ![0, 5, 0] ![0, 0, 0] x v h hu q = padded x b c p := by
  by_cases hin : 5 ≤ p ∧ p < 16389
  · rw [padded_inside x b c (t := p - 5) (by omega) (by omega)]
    refine pad_apply_of_inside _ _ _ x v h hu q (ix3 b ⟨p - 5, by omega⟩ c) fun a => ?_
    match a with
    | ⟨0, _⟩ => show (q 0).val = 0 + b.val * 1; omega
    | ⟨1, _⟩ => show (q 1).val = 5 + (p - 5) * 1; omega
    | ⟨2, _⟩ => show (q 2).val = 0 + c.val * 1; omega
  · rw [padded_outside x b c (by omega), pad_apply_of_not_inside _ _ _ x v h hu q (1 : Fin 3), hv]
    rintro ⟨l, -, r⟩
    change 5 ≤ (q 1).val at l
    change ((q 1).val - 5) / 1 < 16384 at r
    omega

end Cert.Padding

end
-- ==== Proof.Convolution.lean ====
/- The reference that adds the eleven shifted copies of the padded series: its result is the moving average. -/
module

public import proofs.«01_k».proof.Proof.Padding
public import proofs.«01_k».proof.Proof.Gen.ConvolutionIdeal.Read
public import Idealize.ShloMosaic.PureOps.Ideal.Laws

@[expose] public section

set_option maxRecDepth 16384

noncomputable section

open scoped BigOperators

namespace Cert.Convolution

open Idealize.ShloMosaic
open Idealize.ShloMosaic.TcCoe Idealize.ShloMosaic.ValueIdx Idealize.SL.Sem
open Cert.ConvolutionIdeal Cert.ConvolutionIdeal.Gen Cert.ConvolutionIdeal.Read Cert.Average

/-- The padding value is zero. -/
theorem fill (k : S_.Idx) : val_main_call0_v0 (F := Ideal) k = 0 := by
  show (((0#32 : BitVec 32).toInt : ℝ) : EReal) = 0
  simp

/-- The padded argument at a row. -/
theorem row (x : Arr.Idx → EReal) (q : S8x16394x256.Idx) (b : Fin 8) (c : Fin 256) (p : ℕ)
    (h0 : (q 0).val = b.val) (h1 : (q 1).val = p) (h2 : (q 2).val = c.val) :
    val_main_v0 (F := Ideal) x q = padded x b c p :=
  Padding.pad_row x _ _ _ fill q b c p h0 h1 h2

/-- THE RESULT is the moving average. -/
theorem value_eq (x : Arr.Idx → EReal) : val_main_v23 (F := Ideal) x = average x := by
  funext j
  have e (k : ℕ) (q : S8x16394x256.Idx) (h0 : (q 0).val = (j 0).val) (h1 : (q 1).val = k + (j 1).val)
      (h2 : (q 2).val = (j 2).val) : val_main_v0 (F := Ideal) x q = padded x (j 0) (j 2) ((j 1).val + k) :=
    row x q (j 0) (j 2) _ h0 (h1.trans (Nat.add_comm _ _)) h2
  rw [val_main_v23_apply, val_main_v21_apply, val_main_v19_apply, val_main_v17_apply, val_main_v15_apply, val_main_v13_apply,
    val_main_v11_apply, val_main_v9_apply, val_main_v7_apply, val_main_v5_apply, val_main_v3_apply,
    val_main_v1_apply, val_main_v2_apply, val_main_v4_apply, val_main_v6_apply, val_main_v8_apply, val_main_v10_apply,
    val_main_v12_apply, val_main_v14_apply, val_main_v16_apply, val_main_v18_apply, val_main_v20_apply,
    val_main_v22_apply, val_main_cst_apply]
  rw [e 0 (idx_main_v1 j) rfl (Nat.zero_add _).symm rfl, e 1 (idx_main_v2 j) rfl rfl rfl, e 2 (idx_main_v4 j) rfl rfl rfl,
    e 3 (idx_main_v6 j) rfl rfl rfl, e 4 (idx_main_v8 j) rfl rfl rfl, e 5 (idx_main_v10 j) rfl rfl rfl,
    e 6 (idx_main_v12 j) rfl rfl rfl, e 7 (idx_main_v14 j) rfl rfl rfl, e 8 (idx_main_v16 j) rfl rfl rfl,
    e 9 (idx_main_v18 j) rfl rfl rfl, e 10 (idx_main_v20 j) rfl rfl rfl]
  unfold average window
  simp only [Finset.sum_range_succ, Finset.sum_range_zero, zero_add]
  rfl

/-- THE RUN: the result buffer ends at the moving average of the argument, which is left unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = average (m ((c.tc : Thread nD τ).loc main_arg0))
      ∧ r.2.mem ((c.tc : Thread nD τ).loc main_arg0) = m ((c.tc : Thread nD τ).loc main_arg0) :=
  (θ_run defs _ _).mono (fun _ h c => ⟨(h c).1.trans ((val_main_v23_eq _).trans (value_eq _)), (h c).2⟩)
    (Value.run (F := Ideal) m ρ)

end Cert.Convolution

end
-- ==== Proof.Finite.lean ====
/- The precondition decoded: every entry of the argument is a real number. -/
module

public import proofs.«01_k».proof.Proof.Average
public import proofs.«01_k».proof.Proof.Gen.Pre_finite

@[expose] public section

noncomputable section

namespace Cert.Finite

open Idealize.ShloMosaic Cert.Average Cert.Pre_finite.Gen

/-- An argument of which the precondition holds has a real number at every entry. -/
theorem real (x : Arr.Idx → EReal) (h : Cert.Pre_finite.fn (F := Ideal) x = fun _ => 1#1) (j : Arr.Idx) :
    ∃ r : ℝ, x j = r := by
  have hj : IntOp.andi (Ideal.cmp .ogt (x j) (Ideal.ofBits .f32 0xFF800000#32))
      (Ideal.cmp .olt (x j) (Ideal.ofBits .f32 0x7F800000#32)) = 1#1 := congrFun h j
  have hbot : Ideal.ofBits .f32 0xFF800000#32 = ⊥ := by simp [Ideal.ofBits, Ideal.ieee]
  have htop : Ideal.ofBits .f32 0x7F800000#32 = ⊤ := by simp [Ideal.ofBits, Ideal.ieee]
  rw [hbot, htop] at hj
  induction h' : x j with
  | bot => simp [h', Ideal.cmp, IntOp.andi] at hj
  | top => simp [h', Ideal.cmp, IntOp.andi] at hj
  | coe r => exact ⟨r, rfl⟩

end Cert.Finite

end
-- ==== Proof.PrefixSum.lean ====
/- The reference that takes differences of running sums: for an argument of real numbers its result is the moving
   average. -/
module

public import proofs.«01_k».proof.Proof.Padding
public import proofs.«01_k».proof.Proof.Finite
public import proofs.«01_k».proof.Proof.Gen.ReferenceIdeal.Read
public import Idealize.ShloMosaic.PureOps.Ideal.Laws
public import Idealize.ShloMosaic.Lib.Pointwise.Index

@[expose] public section

set_option maxRecDepth 16384

noncomputable section

open scoped BigOperators

namespace Cert.PrefixSum

open Idealize.ShloMosaic hiding ix3 eq_ix3
open Idealize.ShloMosaic.TcCoe Idealize.ShloMosaic.ValueIdx Idealize.SL.Sem
open Cert.ReferenceIdeal Cert.ReferenceIdeal.Gen Cert.ReferenceIdeal.Read Cert.Average

/-! ## The window sum as a finite sum -/

/-- Adding the entries of a list one after another, from `v`. -/
theorem foldl_add {ι : Type} (g : ι → EReal) (l : List ι) (v : EReal) :
    l.foldl (fun r n => r + g n) v = v + (l.map g).sum := by
  induction l generalizing v with
  | nil => simp
  | cons a l ih => rw [List.foldl_cons, ih, List.map_cons, List.sum_cons, add_assoc]

/-- A window of `n + 1` rows that ends at row `j`, the rows before the first counted as zero, adds rows `0 … j`. -/
theorem sum_window (f : ℕ → EReal) {n j : ℕ} (hj : j ≤ n) :
    ∑ k ∈ Finset.range (n + 1), (if n ≤ j + k then f (j + k - n) else 0) = ∑ p ∈ Finset.range (j + 1), f p := by
  have hn : n + 1 = (n - j) + (j + 1) := by omega
  rw [hn, Finset.sum_range_add, Finset.sum_eq_zero, zero_add]
  · refine Finset.sum_congr rfl fun k hk => ?_
    rw [if_pos (by omega)]
    exact congrArg f (by omega)
  · intro k hk
    have := Finset.mem_range.mp hk
    exact if_neg (by omega)

/-- The running sum of the padded series: its first `n` entries added. -/
def total (x : Arr.Idx → EReal) (b : Fin 8) (c : Fin 256) (n : ℕ) : EReal := ∑ p ∈ Finset.range n, padded x b c p

/-- The host's window sum over all rows up to its own, read at batch `b`, row `p` and channel `c`. -/
theorem running_row {u : Shape} {N n : ℕ} (hN : N = n + 1) (y : (⟨3, ![8, N, 256]⟩ : Shape).Idx → EReal) (v : u.Idx → EReal)
    (h : (⟨3, ![8, N, 256]⟩ : Shape).ReduceWindows ![1, N, 1] ![1, 1, 1] ![0, n, 0] ![0, 0, 0] ⟨3, ![8, N, 256]⟩)
    (hu : 0 < u.numel) (hv : ∀ k, v k = 0) (f : ℕ → EReal) (b : Fin 8) (c : Fin 256) (p : ℕ) (hp : p < N)
    (hf : ∀ q (hq : q < N), y (ix3 b ⟨q, hq⟩ c) = f q) :
    Host.reduceWindow (fun r e : EReal => r + e) ![1, N, 1] ![1, 1, 1] ![0, n, 0] ![0, 0, 0] y v h hu (ix3 b ⟨p, hp⟩ c)
      = ∑ q ∈ Finset.range (p + 1), f q := by
  unfold Host.reduceWindow
  dsimp only
  rw [foldl_add, hv, zero_add, ← Fin.sum_univ_def]
  let g : (⟨3, ![1, N, 1]⟩ : Shape).Idx → EReal := fun w => if n ≤ p + (w 1).val then f (p + (w 1).val - n) else 0
  refine (Finset.sum_congr rfl fun k _ => (?_ : _ = g ((⟨3, ![1, N, 1]⟩ : Shape).rowMajor.symm k))).trans ?_
  · let w : (⟨3, ![1, N, 1]⟩ : Shape).Idx := (⟨3, ![1, N, 1]⟩ : Shape).rowMajor.symm k
    show _ = if n ≤ p + (w 1).val then f (p + (w 1).val - n) else 0
    have w0 : (w 0).val = 0 := Nat.lt_one_iff.mp (w 0).isLt
    have w1 : (w 1).val < N := (w 1).isLt
    have w2 : (w 2).val = 0 := Nat.lt_one_iff.mp (w 2).isLt
    split
    · rename_i hin
      have hk : n ≤ p * 1 + (w 1).val := (hin (1 : Fin 3)).1
      rw [if_pos (by omega), ← hf (p + (w 1).val - n) (by omega)]
      refine congrArg y (funext fun a => Fin.ext ?_)
      match a with
      | ⟨0, _⟩ => show b.val * 1 + (w 0).val - 0 = b.val; omega
      | ⟨1, _⟩ => show p * 1 + (w 1).val - n = p + (w 1).val - n; omega
      | ⟨2, _⟩ => show c.val * 1 + (w 2).val - 0 = c.val; omega
    · rename_i hin
      refine (if_neg fun hk => hin fun a => ?_).symm
      match a with
      | ⟨0, _⟩ => exact ⟨Nat.zero_le _, by show b.val * 1 + (w 0).val - 0 < 8; omega⟩
      | ⟨1, _⟩ => exact ⟨by show n ≤ p * 1 + (w 1).val; omega, by show p * 1 + (w 1).val - n < N; omega⟩
      | ⟨2, _⟩ => exact ⟨Nat.zero_le _, by show c.val * 1 + (w 2).val - 0 < 256; omega⟩
  · rw [Equiv.sum_comp (⟨3, ![1, N, 1]⟩ : Shape).rowMajor.symm g, sum_idx3 (n0 := 1) (n1 := N) (n2 := 1)]
    simp only [Finset.univ_unique, Finset.sum_singleton]
    rw [← sum_window f (n := n) (by omega), ← hN]
    exact Fin.sum_univ_eq_sum_range (fun k => if n ≤ p + k then f (p + k - n) else 0) N

/-! ## The stages -/

theorem fill (k : S_.Idx) : val_main_call0_v0 (F := Ideal) k = 0 := by
  show (((0#32 : BitVec 32).toInt : ℝ) : EReal) = 0
  simp

theorem fill' (k : S_.Idx) : val_main_call2_v0 (F := Ideal) k = 0 := fill k

theorem start (k : S_.Idx) : val_main_call1_call0_v0 (F := Ideal) k = 0 := by
  rw [val_main_call1_call0_v0_apply, val_main_call1_call0_cst_apply]
  exact Ideal.ofBits_zero_f32

section

variable (x : Arr.Idx → EReal) (b : Fin 8) (c : Fin 256)

/-- Row `p` of the running sums: the padded series added up to entry `p`. -/
theorem sums_row (p : ℕ) (hp : p < 16394) : val_main_v1 (F := Ideal) x (ix3 b ⟨p, hp⟩ c) = total x b c (p + 1) := by
  unfold val_main_v1 Host.reduceWindowAdd
  rw [Ideal.hostReduceWindowAdd_def]
  unfold Ideal.hostReduceWindowAdd
  exact running_row (N := 16394) (n := 16393) rfl (val_main_v0 (F := Ideal) x) _ _ _ (fun _ => start _) (padded x b c) b c p hp
    fun _ _ => Padding.pad_row x _ _ _ fill _ b c _ rfl rfl rfl

/-- Row `n` of the running sums with a zero put before them: the first `n` entries of the padded series, added. -/
theorem total_row (q : S8x16395x256.Idx) (n : ℕ) (hn : n < 16395) (h0 : (q 0).val = b.val) (h1 : (q 1).val = n)
    (h2 : (q 2).val = c.val) : val_main_v2 (F := Ideal) x q = total x b c n := by
  unfold val_main_v2
  cases n with
  | zero =>
    rw [pad_apply_of_not_inside _ _ _ _ _ _ _ q (1 : Fin 3), fill']
    · rfl
    · rintro ⟨l, -, -⟩
      change 1 ≤ (q 1).val at l
      omega
  | succ p =>
    rw [← sums_row x b c p (by omega)]
    refine pad_apply_of_inside _ _ _ _ _ _ _ q _ fun a => ?_
    match a with
    | ⟨0, _⟩ => show (q 0).val = 0 + b.val * 1; omega
    | ⟨1, _⟩ => show (q 1).val = 1 + p * 1; omega
    | ⟨2, _⟩ => show (q 2).val = 0 + c.val * 1; omega

/-! ## The difference of two running sums -/

/-- Eleven more entries add the window. -/
theorem total_add (t : ℕ) : total x b c (t + 11) = total x b c t + window x b c t :=
  Finset.sum_range_add _ _ _

/-- Running sums of real numbers are real numbers. -/
theorem total_real (hx : ∀ j, ∃ r : ℝ, x j = r) (n : ℕ) : ∃ r : ℝ, total x b c n = r := by
  induction n with
  | zero => exact ⟨0, rfl⟩
  | succ n ih =>
    obtain ⟨r, hr⟩ := ih
    obtain ⟨e, he⟩ : ∃ e : ℝ, padded x b c n = e := by
      unfold padded
      split
      · exact hx _
      · exact ⟨0, rfl⟩
    exact ⟨r + e, by rw [total, Finset.sum_range_succ, ← total, hr, he, EReal.coe_add]⟩

end

/-- THE RESULT is the moving average, for an argument of real numbers. -/
theorem value_eq (x : Arr.Idx → EReal) (hx : ∀ j, ∃ r : ℝ, x j = r) : val_main_v7 (F := Ideal) x = average x := by
  funext j
  have hj : (j 1).val < 16384 := (j 1).isLt
  have e : val_main_v5 (F := Ideal) x j = window x (j 0) (j 2) (j 1).val := by
    rw [val_main_v5_apply, val_main_v3_apply, val_main_v4_apply,
      total_row x (j 0) (j 2) (idx_main_v3 j) ((j 1).val + 11) (by omega) rfl (Nat.add_comm _ _) rfl,
      total_row x (j 0) (j 2) (idx_main_v4 j) (j 1).val (by omega) rfl rfl rfl]
    obtain ⟨r, hr⟩ := total_real x (j 0) (j 2) hx (j 1).val
    refine (congrArg₂ (fun a s : EReal => a - s) (total_add x (j 0) (j 2) (j 1).val) rfl).trans ?_
    dsimp only
    rw [hr]
    exact EReal.add_sub_cancel_left
  rw [val_main_v7_apply, val_main_v6_apply, val_main_cst_apply, e]
  rfl

/-- THE RUN: from an argument of real numbers the result buffer ends at its moving average; the argument is left
    unchanged. -/
theorem run (m : (ℓ : Loc nD τ sig) → Buf (Elt Ideal) ℓ) (ρ : Dev nD → PrngReg)
    (hx : ∀ (c : Dev nD) (j : Arr.Idx), ∃ r : ℝ, (show Arr.Idx → EReal from m ((c.tc : Thread nD τ).loc main_arg0)) j = r) :
    θ_run defs (onTc (τ := τ) (main (F := Ideal))) ⟨m, fun _ => 0, ρ⟩ fun r => ∀ c : Dev nD,
      r.2.mem ((c.tc : Thread nD τ).loc main_v7) = average (m ((c.tc : Thread nD τ).loc main_arg0))
      ∧ r.2.mem ((c.tc : Thread nD τ).loc main_arg0) = m ((c.tc : Thread nD τ).loc main_arg0) :=
  (θ_run defs _ _).mono (fun _ h c => ⟨(h c).1.trans ((val_main_v7_eq _).trans (value_eq _ (hx c))), (h c).2⟩)
    (Value.run (F := Ideal) m ρ)

end Cert.PrefixSum

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ConvolutionIdeal.Run
public import proofs.«01_k».proof.Proof.Gen.ConvolutionIdeal.Read
public import proofs.«01_k».proof.Proof.Gen.ReferenceIdeal
public import proofs.«01_k».proof.Proof.Gen.ConvolutionIdeal
public import proofs.«01_k».proof.Proof.Gen.Pre_finite
public import Idealize.ShloMosaic.Adequacy
public import Idealize.ShloMosaic.Init
public import proofs.«01_k».proof.Proof.Array
public import proofs.«01_k».proof.Proof.Convolution
public import proofs.«01_k».proof.Proof.PrefixSum

@[expose] public section

noncomputable section

namespace Cert.Proof

open Idealize.ShloMosaic Idealize.SL.Sem Cert.Kernel

/-- The reference's run leaves its argument unchanged; it declares no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The second reference's run leaves its argument unchanged; it declares no semaphore. -/
theorem frame_convolution (m : (ℓ : Loc Cert.ConvolutionIdeal.nD Cert.ConvolutionIdeal.τ Cert.ConvolutionIdeal.sig) → Buf (Elt Ideal) ℓ)
    (g : Dev Cert.ConvolutionIdeal.nD → PrngReg) :
    θ_run (Cert.ConvolutionIdeal.defs (F := Ideal)) (onTc (τ := Cert.ConvolutionIdeal.τ) (Cert.ConvolutionIdeal.main (F := Ideal)))
      ⟨m, fun _ => 0, g⟩ (fun r => (∀ c : Dev Cert.ConvolutionIdeal.nD,
        r.2.mem ((c.tc : Thread Cert.ConvolutionIdeal.nD Cert.ConvolutionIdeal.τ).loc Cert.ConvolutionIdeal.main_arg0)
          = m ((c.tc : Thread Cert.ConvolutionIdeal.nD Cert.ConvolutionIdeal.τ).loc Cert.ConvolutionIdeal.main_arg0))
        ∧ r.2.sem = fun _ => 0) :=
  (θ_run Cert.ConvolutionIdeal.defs _ _).mono (fun r h => ⟨fun c => (h c).2, sem_eq_zero_of_no_sems (by decide) r.2⟩)
    (Cert.ConvolutionIdeal.Value.run (F := Ideal) m g)

/-- The kernel and the reference of running sums end with the moving average of the argument, real numbers throughout. -/
theorem algebraic_reference : Cert.algebraic_KernelIdeal_ReferenceIdeal_pre_finite := by
  intro m g m' g' hpre hagree
  refine ⟨fun c => Cert.Average.average (Cert.Array.arg m c), Cert.Array.run m g, ?_⟩
  refine (θ_run Cert.ReferenceIdeal.defs _ _).mono (fun _ h c => ⟨(h c).1.trans ?_, (h c).2⟩)
    (Cert.PrefixSum.run m' g' fun c j => ?_)
  · obtain ⟨r, hr⟩ := Cert.Finite.real (Cert.Array.arg m c) (hpre c) j
    exact ⟨r, (congrFun (hagree c) j).trans hr⟩
  · exact congrArg Cert.Average.average (hagree c)

/-- The kernel and the reference of shifted copies end with the moving average of the argument, whatever it holds. -/
theorem algebraic_convolution : Cert.algebraic_KernelIdeal_ConvolutionIdeal := by
  intro m g m' g' _ hagree
  refine ⟨fun c => Cert.Average.average (Cert.Array.arg m c), Cert.Array.run m g, ?_⟩
  exact (θ_run Cert.ConvolutionIdeal.defs _ _).mono
    (fun _ h c => ⟨(h c).1.trans (congrArg Cert.Average.average (hagree c)), (h c).2⟩) (Cert.Convolution.run m' g')

/-- Everything that the certificate claims. -/
theorem claim : Cert.Claim := ⟨Cert.Kernel.Gen.facts, Cert.KernelIdeal.Gen.facts, Cert.ReferenceIdeal.Gen.facts, Cert.ConvolutionIdeal.Gen.facts, Cert.Pre_finite.Gen.facts,
  fun m g _ => Cert.Kernel.Gen.frame m g,
  fun m g _ => Cert.KernelIdeal.Gen.frame m g,
  fun m g _ => Cert.KernelIdeal.Gen.frame m g,
  fun m g _ => frame_reference m g,
  fun m g _ => frame_reference m g,
  fun m g _ => frame_convolution m g,
  trivial,
  algebraic_reference,
  algebraic_convolution⟩

end Cert.Proof

end
